-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x112 : Shape := ⟨3, ![2, 128, 112]⟩
abbrev S200x128x128 : Shape := ⟨3, ![200, 128, 128]⟩
abbrev S819200 : Shape := ⟨1, ![819200]⟩
abbrev S25600 : Shape := ⟨1, ![25600]⟩
abbrev S2x112x128 : Shape := ⟨3, ![2, 112, 128]⟩
abbrev S25600x32 : Shape := ⟨2, ![25600, 32]⟩
abbrev S1x25600 : Shape := ⟨2, ![1, 25600]⟩
abbrev S112x25600 : Shape := ⟨2, ![112, 25600]⟩
abbrev S4x128x128 : Shape := ⟨3, ![4, 128, 128]⟩
abbrev S512x32 : Shape := ⟨2, ![512, 32]⟩
abbrev S1x512 : Shape := ⟨2, ![1, 512]⟩
abbrev S112x512 : Shape := ⟨2, ![112, 512]⟩
abbrev S1x112x128 : Shape := ⟨3, ![1, 112, 128]⟩
abbrev S112x128 : Shape := ⟨2, ![112, 128]⟩
abbrev S112x256 : Shape := ⟨2, ![112, 256]⟩
abbrev S1x128x128 : Shape := ⟨3, ![1, 128, 128]⟩
abbrev S128x128 : Shape := ⟨2, ![128, 128]⟩
abbrev S256x128 : Shape := ⟨2, ![256, 128]⟩
abbrev S128x32 : Shape := ⟨2, ![128, 32]⟩
abbrev S32x128 : Shape := ⟨2, ![32, 128]⟩
abbrev S1x128 : Shape := ⟨2, ![1, 128]⟩
abbrev S128 : Shape := ⟨1, ![128]⟩

abbrev nBuf : Space → Nat
  | .hbm => 15
  | .vmem => 19
  | .smem => 0
  | _ => 0

abbrev bufTy : (tb : Table) → Fin (tcTables nBuf tb) → BufTy
  | .hbm, ⟨0, _⟩ => ⟨S2x128x112, .bf16⟩
  | .hbm, ⟨1, _⟩ => ⟨S200x128x128, .i32⟩
  | .hbm, ⟨2, _⟩ => ⟨S819200, .i32⟩
  | .hbm, ⟨3, _⟩ => ⟨S25600, .f32⟩
  | .hbm, ⟨4, _⟩ => ⟨S25600, .f32⟩
  | .hbm, ⟨5, _⟩ => ⟨S25600, .f32⟩
  | .hbm, ⟨6, _⟩ => ⟨S2x112x128, .bf16⟩
  | .hbm, ⟨7, _⟩ => ⟨S25600x32, .i32⟩
  | .hbm, ⟨8, _⟩ => ⟨S1x25600, .f32⟩
  | .hbm, ⟨9, _⟩ => ⟨S1x25600, .f32⟩
  | .hbm, ⟨10, _⟩ => ⟨S1x25600, .f32⟩
  | .hbm, ⟨11, _⟩ => ⟨S112x25600, .i8⟩
  | .hbm, ⟨12, _⟩ => ⟨S1x25600, .f32⟩
  | .hbm, ⟨13, _⟩ => ⟨S1x25600, .f32⟩
  | .hbm, ⟨14, _⟩ => ⟨S1x25600, .f32⟩
  | .local _ .vmem, ⟨0, _⟩ => ⟨S2x112x128, .bf16⟩
  | .local _ .vmem, ⟨1, _⟩ => ⟨S4x128x128, .i32⟩
  | .local _ .vmem, ⟨2, _⟩ => ⟨S4x128x128, .i32⟩
  | .local _ .vmem, ⟨3, _⟩ => ⟨S512x32, .i32⟩
  | .local _ .vmem, ⟨4, _⟩ => ⟨S512x32, .i32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S112x512, .i8⟩
  | .local _ .vmem, ⟨12, _⟩ => ⟨S112x512, .i8⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | _, _ => ⟨S2x128x112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x112x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x128x112 : Shape := ⟨3, ![2, 128, 112]⟩
abbrev S200x128x128 : Shape := ⟨3, ![200, 128, 128]⟩
abbrev S819200 : Shape := ⟨1, ![819200]⟩
abbrev S25600 : Shape := ⟨1, ![25600]⟩
abbrev S2 : Shape := ⟨1, ![2]⟩
abbrev S200x128x128x1 : Shape := ⟨4, ![200, 128, 128, 1]⟩
abbrev S_ : Shape := ⟨0, ![]⟩
abbrev S1x1x1x2 : Shape := ⟨4, ![1, 1, 1, 2]⟩
abbrev S200x128x128x2 : Shape := ⟨4, ![200, 128, 128, 2]⟩
abbrev S200x128x2x128 : Shape := ⟨4, ![200, 128, 2, 128]⟩
abbrev S25600x256 : Shape := ⟨2, ![25600, 256]⟩
abbrev S256x112 : Shape := ⟨2, ![256, 112]⟩
abbrev S25600x112 : Shape := ⟨2, ![25600, 112]⟩
abbrev S4 : Shape := ⟨1, ![4]⟩
abbrev S25600x32 : Shape := ⟨2, ![25600, 32]⟩
abbrev S25600x32x1 : Shape := ⟨3, ![25600, 32, 1]⟩
abbrev S1x1x4 : Shape := ⟨3, ![1, 1, 4]⟩
abbrev S25600x32x4 : Shape := ⟨3, ![25600, 32, 4]⟩
abbrev S25600x128 : Shape := ⟨2, ![25600, 128]⟩
abbrev S25600x1 : Shape := ⟨2, ![25600, 1]⟩
abbrev S112x25600 : Shape := ⟨2, ![112, 25600]⟩
abbrev S1x25600 : Shape := ⟨2, ![1, 25600]⟩

abbrev nBuf : Space → Nat
  | .hbm => 97
  | .vmem => 0
  | .smem => 0
  | _ => 0

abbrev bufTy : (tb : Table) → Fin (tcTables nBuf tb) → BufTy
  | .hbm, ⟨0, _⟩ => ⟨S2x128x112, .bf16⟩
  | .hbm, ⟨1, _⟩ => ⟨S200x128x128, .i32⟩
  | .hbm, ⟨2, _⟩ => ⟨S819200, .i32⟩
  | .hbm, ⟨3, _⟩ => ⟨S25600, .f32⟩
  | .hbm, ⟨4, _⟩ => ⟨S25600, .f32⟩
  | .hbm, ⟨5, _⟩ => ⟨S25600, .f32⟩
  | .hbm, ⟨6, _⟩ => ⟨S2, .i32⟩
  | .hbm, ⟨7, _⟩ => ⟨S200x128x128x1, .i32⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S1x1x1x2, .i32⟩
  | .hbm, ⟨12, _⟩ => ⟨S200x128x128x2, .i32⟩
  | .hbm, ⟨13, _⟩ => ⟨S200x128x128x2, .i32⟩
  | .hbm, ⟨14, _⟩ => ⟨S200x128x128x2, .i32⟩
  | .hbm, ⟨15, _⟩ => ⟨S_, .i32⟩
  | .hbm, ⟨16, _⟩ => ⟨S200x128x128x2, .i32⟩
  | .hbm, ⟨17, _⟩ => ⟨S200x128x128x2, .i32⟩
  | .hbm, ⟨18, _⟩ => ⟨S200x128x2x128, .i32⟩
  | .hbm, ⟨19, _⟩ => ⟨S25600x256, .i32⟩
  | .hbm, ⟨20, _⟩ => ⟨S25600x256, .f32⟩
  | .hbm, ⟨21, _⟩ => ⟨S256x112, .bf16⟩
  | .hbm, ⟨22, _⟩ => ⟨S256x112, .f32⟩
  | .hbm, ⟨23, _⟩ => ⟨S25600x112, .f32⟩
  | .hbm, ⟨24, _⟩ => ⟨S4, .i32⟩
  | .hbm, ⟨25, _⟩ => ⟨S25600x32, .i32⟩
  | .hbm, ⟨26, _⟩ => ⟨S25600x32x1, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S1x1x4, .i32⟩
  | .hbm, ⟨31, _⟩ => ⟨S25600x32x4, .i32⟩
  | .hbm, ⟨32, _⟩ => ⟨S25600x32x4, .i32⟩
  | .hbm, ⟨33, _⟩ => ⟨S25600x32x4, .i32⟩
  | .hbm, ⟨34, _⟩ => ⟨S_, .i32⟩
  | .hbm, ⟨35, _⟩ => ⟨S25600x32x4, .i32⟩
  | .hbm, ⟨36, _⟩ => ⟨S25600x32x4, .i32⟩
  | .hbm, ⟨37, _⟩ => ⟨S25600x128, .i32⟩
  | .hbm, ⟨38, _⟩ => ⟨S25600x112, .i32⟩
  | .hbm, ⟨39, _⟩ => ⟨S25600x112, .f32⟩
  | .hbm, ⟨40, _⟩ => ⟨S25600x1, .f32⟩
  | .hbm, ⟨41, _⟩ => ⟨S25600x112, .f32⟩
  | .hbm, ⟨42, _⟩ => ⟨S25600x112, .f32⟩
  | .hbm, ⟨43, _⟩ => ⟨S25600x1, .f32⟩
  | .hbm, ⟨44, _⟩ => ⟨S25600x112, .f32⟩
  | .hbm, ⟨45, _⟩ => ⟨S25600x112, .f32⟩
  | .hbm, ⟨46, _⟩ => ⟨S25600x112, .f32⟩
  | .hbm, ⟨47, _⟩ => ⟨S_, .f32⟩
  | .hbm, ⟨48, _⟩ => ⟨S25600, .f32⟩
  | .hbm, ⟨49, _⟩ => ⟨S_, .f32⟩
  | .hbm, ⟨50, _⟩ => ⟨S25600, .f32⟩
  | .hbm, ⟨51, _⟩ => ⟨S25600, .f32⟩
  | .hbm, ⟨52, _⟩ => ⟨S25600, .f32⟩
  | .hbm, ⟨53, _⟩ => ⟨S_, .f32⟩
  | .hbm, ⟨54, _⟩ => ⟨S25600x112, .f32⟩
  | .hbm, ⟨55, _⟩ => ⟨S25600x112, .f32⟩
  | .hbm, ⟨56, _⟩ => ⟨S25600, .f32⟩
  | .hbm, ⟨57, _⟩ => ⟨S_, .f32⟩
  | .hbm, ⟨58, _⟩ => ⟨S25600, .f32⟩
  | .hbm, ⟨59, _⟩ => ⟨S25600, .f32⟩
  | .hbm, ⟨60, _⟩ => ⟨S25600x1, .f32⟩
  | .hbm, ⟨61, _⟩ => ⟨S25600x112, .f32⟩
  | .hbm, ⟨62, _⟩ => ⟨S25600x112, .f32⟩
  | .hbm, ⟨63, _⟩ => ⟨S25600x112, .f32⟩
  | .hbm, ⟨64, _⟩ => ⟨S_, .f32⟩
  | .hbm, ⟨65, _⟩ => ⟨S25600, .f32⟩
  | .hbm, ⟨66, _⟩ => ⟨S_, .f32⟩
  | .hbm, ⟨67, _⟩ => ⟨S25600, .f32⟩
  | .hbm, ⟨68, _⟩ => ⟨S25600, .i1⟩
  | .hbm, ⟨69, _⟩ => ⟨S25600, .f32⟩
  | .hbm, ⟨70, _⟩ => ⟨S_, .f32⟩
  | .hbm, ⟨71, _⟩ => ⟨S25600, .f32⟩
  | .hbm, ⟨72, _⟩ => ⟨S25600, .f32⟩
  | .hbm, ⟨73, _⟩ => ⟨S_, .f32⟩
  | .hbm, ⟨74, _⟩ => ⟨S25600, .f32⟩
  | .hbm, ⟨75, _⟩ => ⟨S25600, .f32⟩
  | .hbm, ⟨76, _⟩ => ⟨S25600x1, .f32⟩
  | .hbm, ⟨77, _⟩ => ⟨S25600x112, .f32⟩
  | .hbm, ⟨78, _⟩ => ⟨S25600x112, .f32⟩
  | .hbm, ⟨79, _⟩ => ⟨S25600x1, .f32⟩
  | .hbm, ⟨80, _⟩ => ⟨S25600x112, .f32⟩
  | .hbm, ⟨81, _⟩ => ⟨S25600x112, .f32⟩
  | .hbm, ⟨82, _⟩ => ⟨S25600x112, .f32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S25600x112, .f32⟩
  | .hbm, ⟨87, _⟩ => ⟨S25600x112, .f32⟩
  | .hbm, ⟨88, _⟩ => ⟨S_, .f32⟩
  | .hbm, ⟨89, _⟩ => ⟨S25600x112, .f32⟩
  | .hbm, ⟨90, _⟩ => ⟨S25600x112, .f32⟩
  | .hbm, ⟨91, _⟩ => ⟨S25600x112, .i32⟩
  | .hbm, ⟨92, _⟩ => ⟨S25600x112, .i8⟩
  | .hbm, ⟨93, _⟩ => ⟨S112x25600, .i8⟩
  | .hbm, ⟨94, _⟩ => ⟨S1x25600, .f32⟩
  | .hbm, ⟨95, _⟩ => ⟨S1x25600, .f32⟩
  | .hbm, ⟨96, _⟩ => ⟨S1x25600, .f32⟩
  | _, _ => ⟨S2x128x112, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_call0_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_c_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Proof.Spec.lean ====
/-
  The mathematics of one row-update step, stated without any program: the digits a 32-bit word packs, the gradient of a
  row as counts times gradient columns, the momentum, the updated row, and its min-max quantisation. The two halves of
  the file are these definitions and the arithmetic that relates the ways the kernel and the reference spell them.
-/
module

public import Idealize.ShloMosaic.PureOps.Ideal
public import Idealize.ShloMosaic.PureOps.Ideal.Laws
public import Idealize.ShloMosaic.Lib.ValueIdx
public import Idealize.ShloMosaic.Lib.ValueIdxCore
public import Idealize.ShloMosaic.Lib.BitcastPair
public import Mathlib.Data.EReal.Operations

@[expose] public section

noncomputable section

namespace Cert.RowUpdate

open Idealize.ShloMosaic

/-! ## Digits of a word -/

/-- The digit of weight `2 ^ s` and width `n` bits of a word, as an extended real. -/
def digit (s n : ℕ) (w : BitVec 32) : EReal := (((w.toNat / 2 ^ s % 2 ^ n : ℕ) : ℝ) : EReal)

theorem digit_nonneg (s n : ℕ) (w : BitVec 32) : 0 ≤ digit s n w :=
  EReal.coe_nonneg.2 (Nat.cast_nonneg _)

/-- A digit of sixteen bits is its low byte plus 256 times its high byte. -/
theorem digit_split (s : ℕ) (w : BitVec 32) :
    digit s 8 w + ((256 : ℝ) : EReal) * digit (s + 8) 8 w = digit s 16 w := by
  unfold digit
  rw [← EReal.coe_mul, ← EReal.coe_add]
  congr 1
  have h : w.toNat / 2 ^ s % 2 ^ 16 = w.toNat / 2 ^ s % 2 ^ 8 + 256 * (w.toNat / 2 ^ (s + 8) % 2 ^ 8) := by
    rw [pow_add, ← Nat.div_div_eq_div_mul]
    generalize w.toNat / 2 ^ s = x
    omega
  rw [h]; push_cast; ring

/-- Shifting a word right and masking with `2 ^ n - 1` leaves one digit, whatever sign the shift extends, as long as the
    digit lies inside the word. -/
theorem toInt_shift_mask (u : ArithUnit) (w : BitVec 32) (s n : ℕ) (hn : n < 32) (hs : s + n ≤ 32) (hs' : s < 32) :
    (IntOp.andi (IntOp.shrsi u w (BitVec.ofNat 32 s)) (BitVec.ofNat 32 (2 ^ n - 1))).toInt
      = ((w.toNat / 2 ^ s % 2 ^ n : ℕ) : ℤ) := by
  have h32 : (2 : ℕ) ^ n ≤ 2 ^ 31 := Nat.pow_le_pow_right (by norm_num) (by omega)
  have hlt : w.toNat / 2 ^ s % 2 ^ n < 2 ^ n := Nat.mod_lt _ (by positivity)
  have key : IntOp.andi (IntOp.shrsi u w (BitVec.ofNat 32 s)) (BitVec.ofNat 32 (2 ^ n - 1))
      = BitVec.ofNat 32 (w.toNat / 2 ^ s % 2 ^ n) := by
    have e : (BitVec.ofNat 32 s).toNat = s := by
      rw [BitVec.toNat_ofNat]; exact Nat.mod_eq_of_lt (by omega)
    unfold IntOp.andi IntOp.shrsi
    rw [if_pos (by rw [e]; exact hs'), BitVec.sshiftRight', e]
    apply BitVec.eq_of_getLsbD_eq
    intro i hi
    simp only [BitVec.getLsbD_and, BitVec.getLsbD_sshiftRight, BitVec.getLsbD_ofNat, Nat.testBit_mod_two_pow,
      Nat.testBit_div_two_pow, Nat.testBit_two_pow_sub_one, hi, decide_true, Bool.true_and]
    by_cases hin : i < n
    · have h1 : ¬ 32 ≤ i := by omega
      have h2 : s + i < 32 := by omega
      simp [hin, h1, h2, BitVec.getLsbD, Nat.add_comm]
    · simp [hin]
  rw [key, BitVec.toInt_eq_toNat_of_lt, BitVec.toNat_ofNat, Nat.mod_eq_of_lt (by omega)]
  rw [BitVec.toNat_ofNat, Nat.mod_eq_of_lt (by omega)]; omega

/-- A word reread as bytes (32 bits to 8, rows split four to one): the byte in row `p` of a column is byte `p % 4`,
    lowest first, of the word in row `p / 4` of that column. -/
theorem bitcast_byte {R r n : ℕ} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    (bitcast ⟨2, ![R, n]⟩ 8 x h (ValueIdx.ix2 p l)).toNat
      = (x (ValueIdx.ix2 a l)).toNat / 2 ^ (8 * (p.val % 4)) % 2 ^ 8 := by
  have key : bitcast ⟨2, ![R, n]⟩ 8 x h (ValueIdx.ix2 p l)
      = BitVec.ofNat 8 ((x (ValueIdx.ix2 a l)).toNat / 2 ^ (8 * (p.val % 4))) := by
    apply BitVec.eq_of_getLsbD_eq
    intro i hi
    rw [bitcast_getLsbD x h _ i hi (by norm_num)]
    have hrow : (⟨2, ![R, n]⟩ : Shape).row (ValueIdx.ix2 p l) = p.val := rfl
    have e1 : ((⟨2, ![R, n]⟩ : Shape).row (ValueIdx.ix2 p l) * 8 + i) / 32 = a.val := by rw [hrow, ha]; omega
    have e2 : ((⟨2, ![R, n]⟩ : Shape).row (ValueIdx.ix2 p l) * 8 + i) % 32 = 8 * (p.val % 4) + i := by rw [hrow]; omega
    rw [e2, h.srcIdx_congr _ e1 _ (fun c hc => by
      have : c = ⟨0, Nat.zero_lt_two⟩ := Fin.ext (by simpa using hc)
      subst this; exact a.isLt)]
    have e3 : h.srcIdx (ValueIdx.ix2 p l) a.val (fun c hc => by
        have : c = ⟨0, Nat.zero_lt_two⟩ := Fin.ext (by simpa using hc)
        subst this; exact a.isLt) = ValueIdx.ix2 a l := by
      funext c
      match c with
      | ⟨0, _⟩ => exact Fin.ext (h.srcIdx_row _ _ _ ⟨0, Nat.zero_lt_two⟩ rfl)
      | ⟨1, _⟩ => exact Fin.ext (h.srcIdx_other _ _ _ ⟨1, Nat.one_lt_two⟩ (by show ¬ 1 + 2 = 2; omega))
    rw [e3, BitVec.getLsbD_ofNat, Nat.testBit_div_two_pow]
    simp [hi, BitVec.getLsbD, Nat.add_comm]
  rw [key, BitVec.toNat_ofNat]

/-! ## One row -/

/-- Everything the update of one table row reads: the gradient columns of the 256 samples (shared by all rows), the row's
    128 count words, its 32 packed words of byte codes, its scale, bias and momentum. -/
structure Row where
  /-- Sample `b`'s gradient at column `k`. -/
  samples : Fin 256 → Fin 112 → EReal
  /-- Count word `b`: the counts of samples `b` (low half) and `b + 128` (high half). -/
  counts : Fin 128 → BitVec 32
  /-- Packed word `q`: the byte codes of columns `4 q … 4 q + 3`, lowest first. -/
  words : Fin 32 → BitVec 32
  /-- The row's scale. -/
  scale : EReal
  /-- The row's bias. -/
  bias : EReal
  /-- The row's momentum before the step. -/
  mom : EReal

namespace Row

variable (R : Row)

/-- Count of sample `b`: half `b / 128` of count word `b % 128`. -/
def count (b : Fin 256) : EReal := digit (16 * (b.val / 128)) 16 (R.counts ⟨b.val % 128, Nat.mod_lt _ (by norm_num)⟩)

/-- The row's gradient at column `k`: counts times gradient columns. -/
def grad (k : Fin 112) : EReal := ∑ b : Fin 256, R.count b * R.samples b k

/-- The row's byte code at column `k`. -/
def code (k : Fin 112) : EReal := digit (8 * (k.val % 4)) 8 (R.words ⟨k.val / 4, by omega⟩)

/-- The row's weight at column `k` before the step. -/
def old (k : Fin 112) : EReal := R.code k * R.scale + R.bias

/-- The momentum after the step: plus the mean squared gradient. -/
def momNew : EReal := R.mom + Ideal.div (∑ k, R.grad k * R.grad k) (Ideal.ofBits .f32 0x42E00000#32)

/-- The weight at column `k` after the step. -/
def new (k : Fin 112) : EReal :=
  R.old k - Ideal.div (Ideal.ofBits .f32 0x3DCCCCCD#32 * R.grad k) (Ideal.sqrt R.momNew + Ideal.ofBits .f32 0x322BCC77#32)

/-- The smallest new weight. -/
def lo : EReal := Finset.univ.fold min (Ideal.ofBits .f32 0x7F800000#32) R.new

/-- The largest new weight. -/
def hi : EReal := Finset.univ.fold max (Ideal.ofBits .f32 0xFF800000#32) R.new

/-- The quantiser's step: the range over 255, or one where the row is constant. -/
def step : EReal := if R.hi = R.lo then 1 else Ideal.div (R.hi - R.lo) (Ideal.ofBits .f32 0x437F0000#32)

/-- The new byte code at column `k`. -/
def codeNew (k : Fin 112) : BitVec 8 :=
  (Ideal.fptosi 32 (min (Ideal.ofBits .f32 0x437F0000#32)
    (max 0 (Ideal.liftRound Ideal.roundHalfEven (Ideal.div (R.new k - R.lo) R.step))))).setWidth 8

end Row

/-- Row `r` of the whole table, from the six argument arrays: the samples' gradients, two slabs of 128 by 112; the count
    words, a slab of 128 words by 128 rows for every 128 rows; the packed table, 32 words to a row; the rows' scales, biases
    and momenta. -/
def rowOf (grad : (⟨3, ![2, 128, 112]⟩ : Shape).Idx → EReal) (counts : (⟨3, ![200, 128, 128]⟩ : Shape).Idx → BitVec 32)
    (words : (⟨1, ![819200]⟩ : Shape).Idx → BitVec 32) (scale bias mom : (⟨1, ![25600]⟩ : Shape).Idx → EReal)
    (r : Fin 25600) : Row where
  samples b k := grad (ValueIdx.ix3 ⟨b.val / 128, by omega⟩ ⟨b.val % 128, by omega⟩ k)
  counts b := counts (ValueIdx.ix3 ⟨r.val / 128, by omega⟩ b ⟨r.val % 128, by omega⟩)
  words q := words (ValueIdx.ix1 ⟨r.val * 32 + q.val, by omega⟩)
  scale := scale (ValueIdx.ix1 r)
  bias := bias (ValueIdx.ix1 r)
  mom := mom (ValueIdx.ix1 r)

/-! ## The two spellings of the gradient -/

/-- A finite nonnegative factor goes into a sum of extended reals. -/
theorem mul_sum_of_nonneg {ι : Type} (s : Finset ι) (c : EReal) (hc : 0 ≤ c) (hc' : c ≠ ⊤) (f : ι → EReal) :
    c * ∑ b ∈ s, f b = ∑ b ∈ s, c * f b := by
  classical
  induction s using Finset.induction_on with
  | empty => simp
  | insert a s ha ih => rw [Finset.sum_insert ha, Finset.sum_insert ha, EReal.left_distrib_of_nonneg_of_ne_top hc hc', ih]

/-- One sample's share of the gradient, from the bytes of its count. -/
theorem share_of_bytes (s : ℕ) (w : BitVec 32) (g : EReal) :
    g * digit s 8 w + ((256 : ℝ) : EReal) * (g * digit (s + 8) 8 w) = digit s 16 w * g := by
  rw [mul_left_comm, ← EReal.left_distrib_of_nonneg (digit_nonneg _ _ _)
    (mul_nonneg (EReal.coe_nonneg.2 (by norm_num)) (digit_nonneg _ _ _)), digit_split, mul_comm]

/-- The gradient from bytes: the samples weighted by the low bytes of the counts, plus 256 times the samples weighted by
    the high bytes, is the gradient. The two halves of the samples are summed apart. -/
theorem grad_of_bytes (R : Row) (k : Fin 112) (g₀ g₁ : Fin 128 → EReal)
    (h₀ : ∀ x : Fin 128, g₀ x = R.samples ⟨x.val, by omega⟩ k) (h₁ : ∀ x : Fin 128, g₁ x = R.samples ⟨128 + x.val, by omega⟩ k) :
    (∑ x, g₀ x * digit 0 8 (R.counts x) + ∑ x, g₁ x * digit 16 8 (R.counts x))
        + ((256 : ℝ) : EReal) * (∑ x, g₀ x * digit 8 8 (R.counts x) + ∑ x, g₁ x * digit 24 8 (R.counts x))
      = R.grad k := by
  have h256 : (0 : EReal) ≤ ((256 : ℝ) : EReal) := EReal.coe_nonneg.2 (by norm_num)
  rw [EReal.left_distrib_of_nonneg_of_ne_top h256 (EReal.coe_ne_top _),
    mul_sum_of_nonneg _ _ h256 (EReal.coe_ne_top _), mul_sum_of_nonneg _ _ h256 (EReal.coe_ne_top _),
    add_add_add_comm, ← Finset.sum_add_distrib, ← Finset.sum_add_distrib]
  refine Eq.trans ?_ (Fin.sum_univ_add (a := 128) (b := 128) fun b : Fin 256 => R.count b * R.samples b k).symm
  congr 1
  · refine Finset.sum_congr rfl fun x _ => ?_
    rw [share_of_bytes 0, h₀]
    have e : R.count (Fin.castAdd 128 x) = digit 0 16 (R.counts x) := by
      unfold Row.count
      congr 1
      · show 16 * (x.val / 128) = 0; omega
      · exact congrArg R.counts (Fin.ext (show x.val % 128 = x.val by omega))
    rw [e]; rfl
  · refine Finset.sum_congr rfl fun x _ => ?_
    rw [share_of_bytes 16, h₁]
    have e : R.count (Fin.natAdd 128 x) = digit 16 16 (R.counts x) := by
      unfold Row.count
      congr 1
      · show 16 * ((128 + x.val) / 128) = 16; omega
      · exact congrArg R.counts (Fin.ext (show (128 + x.val) % 128 = x.val by omega))
    rw [e]; rfl

/-- The byte a shift and the mask 255 leave, converted to a float. -/
theorem sitofp_byte (u : ArithUnit) (w : BitVec 32) (s : ℕ) (hs : s + 8 ≤ 32) :
    FloatOps.sitofp (F := Ideal) .f32 (IntOp.andi (IntOp.shrsi u w (BitVec.ofNat 32 s)) 255#32) = digit s 8 w := by
  show ((((IntOp.andi (IntOp.shrsi u w (BitVec.ofNat 32 s)) 255#32).toInt : ℝ)) : EReal) = _
  rw [show (255#32 : BitVec 32) = BitVec.ofNat 32 (2 ^ 8 - 1) from rfl, toInt_shift_mask u w s 8 (by norm_num) hs (by omega)]
  rfl

/-- The half word a shift and the mask 65535 leave, converted to a float. -/
theorem sitofp_half (u : ArithUnit) (w : BitVec 32) (s : ℕ) (hs : s + 16 ≤ 32) :
    FloatOps.sitofp (F := Ideal) .f32 (IntOp.andi (IntOp.shrsi u w (BitVec.ofNat 32 s)) 65535#32) = digit s 16 w := by
  show ((((IntOp.andi (IntOp.shrsi u w (BitVec.ofNat 32 s)) 65535#32).toInt : ℝ)) : EReal) = _
  rw [show (65535#32 : BitVec 32) = BitVec.ofNat 32 (2 ^ 16 - 1) from rfl, toInt_shift_mask u w s 16 (by norm_num) hs (by omega)]
  rfl

/-- The single-precision constant 256. -/
theorem ofBits_256 : Ideal.ofBits .f32 0x43800000#32 = ((256 : ℝ) : EReal) := by
  simp [Ideal.ofBits, Ideal.ieee, -EReal.coe_mul]; norm_num

/-- The single-precision constant 255, as the integer 255 converted. -/
theorem ofBits_255 : Ideal.ofBits .f32 0x437F0000#32 = ((((255#32 : BitVec 32).toInt : ℝ)) : EReal) := by
  have h : (255#32 : BitVec 32).toInt = 255 := by decide
  rw [h]
  simp [Ideal.ofBits, Ideal.ieee, -EReal.coe_mul]; norm_num

end Cert.RowUpdate

end
-- ==== Proof.Group.lean ====
/-
  One group of 128 table rows of the kernel's body, read at an index: lane `l` of every value the group computes is the
  row update (Proof/Spec.lean) of the row in lane `l`.
-/
module

public import proofs.«01_k».proof.Proof.Spec
public import proofs.«01_k».proof.Proof.Gen.KernelIdeal.Skeleton
public import Idealize.ShloMosaic.Lib.Pointwise
public import Idealize.ShloMosaic.Lib.Pipeline.Value

@[expose] public section

noncomputable section

namespace Cert.KernelIdeal.Group

open Idealize.ShloMosaic Cert.KernelIdeal Cert.KernelIdeal.Gen Cert.RowUpdate

variable (v0 v2 : FVec Ideal S1x112x128 .bf16) (v5 : IVec S1x128x128 32) (v38 : IVec S128x32 32)
  (v45 v49 v53 : FVec Ideal S1x128 .f32)

/-- The row in lane `l` of a group, from the values the group loads: the two slabs of gradient columns, the count words,
    the packed words, the scales, the biases and the momenta. -/
def row (l : Fin 128) : Row where
  samples b k := if b.val < 128 then v0 (ix3 0 k ⟨b.val % 128, by omega⟩) else v2 (ix3 0 k ⟨b.val % 128, by omega⟩)
  counts b := v5 (ix3 0 b l)
  words q := v38 (ix2 l q)
  scale := v45 (ix2 0 l)
  bias := v49 (ix2 0 l)
  mom := v53 (ix2 0 l)

/-- The gradient the group computes with its two products is the row's gradient. -/
theorem pay2_apply (k : Fin 112) (l : Fin 128) :
    k0_pay2 (F := Ideal) v0 v2 v5 (ix2 k l) = (row v0 v2 v5 v38 v45 v49 v53 l).grad k := by
  pointwise [k0_pay2, k0_pay1]
  simp only [sitofp_byte _ _ 0 (by norm_num), sitofp_byte _ _ 8 (by norm_num), sitofp_byte _ _ 16 (by norm_num),
    sitofp_byte _ _ 24 (by norm_num), ofBits_256]
  refine grad_of_bytes (row v0 v2 v5 v38 v45 v49 v53 l) k _ _ (fun x => ?_) (fun x => ?_)
  · show _ = if x.val < 128 then _ else _
    rw [if_pos x.isLt]
    exact congrArg v0 (congrArg (ix3 0 k) (Fin.ext (show x.val = x.val % 128 by omega)))
  · show _ = if 128 + x.val < 128 then _ else _
    rw [if_neg (by omega)]
    exact congrArg v2 (congrArg (ix3 0 k) (Fin.ext (show x.val = (128 + x.val) % 128 by omega)))

section Chain

variable {v0 v2 v5 v38 v45 v49 v53} {v37 : FVec Ideal S112x128 .f32} {l : Fin 128}
  (h : ∀ k, v37 (ix2 k l) = (row v0 v2 v5 v38 v45 v49 v53 l).grad k)
include h

/-- The momentum the group stores. -/
theorem pay3_apply : k0_pay3 (F := Ideal) v37 v53 (ix2 0 l) = (row v0 v2 v5 v38 v45 v49 v53 l).momNew := by
  pointwise [k0_pay3]
  simp only [h]
  rfl

/-- The weights the group computes. -/
theorem pay4_apply (k : Fin 112) :
    k0_pay4 (F := Ideal) v37 v38 v45 v49 v53 (ix2 k l) = (row v0 v2 v5 v38 v45 v49 v53 l).new k := by
  pointwise [k0_pay4]
  rw [pay3_apply h, h]
  have hb : FloatOps.sitofp (F := Ideal) FTy.f32 (BitVec.setWidth 32 (bitcast S128x128 8
      (transpose S32x128 [1, 0] v38 transposes_S128x32_p1_0_S32x128) bitcasts_S32x128_w32_S128x128_w8
      (ix2 ⟨k.val, by omega⟩ l))) = (row v0 v2 v5 v38 v45 v49 v53 l).code k := by
    show ((((BitVec.setWidth 32 _).toInt : ℝ)) : EReal) = digit (8 * (k.val % 4)) 8 (v38 (ix2 l ⟨k.val / 4, by omega⟩))
    have e := bitcast_byte (transpose S32x128 [1, 0] v38 transposes_S128x32_p1_0_S32x128)
      bitcasts_S32x128_w32_S128x128_w8 ⟨k.val, by omega⟩ l ⟨k.val / 4, by omega⟩ rfl
    rw [transpose_apply [1, 0] v38 _ _ (ix2 l ⟨k.val / 4, by omega⟩) (fun b => by match b with
      | ⟨0, _⟩ => rfl
      | ⟨1, _⟩ => rfl)] at e
    unfold digit
    rw [← e, BitVec.toInt_eq_toNat_of_lt, BitVec.toNat_setWidth]
    · rw [Nat.mod_eq_of_lt (by omega)]; rfl
    · rw [BitVec.toNat_setWidth]; omega
  rw [hb]
  rfl

/-- The smallest weight, which the group stores as the new bias. -/
theorem pay5_apply : k0_pay5 (F := Ideal) v37 v38 v45 v49 v53 (ix2 0 l) = (row v0 v2 v5 v38 v45 v49 v53 l).lo := by
  pointwise [k0_pay5]
  simp only [pay4_apply h]
  rfl

/-- The quantiser's step, which the group stores as the new scale. -/
theorem pay6_apply : k0_pay6 (F := Ideal) v37 v38 v45 v49 v53 (ix2 0 l) = (row v0 v2 v5 v38 v45 v49 v53 l).step := by
  pointwise [k0_pay6]
  simp only [pay4_apply h, pay5_apply h]
  rfl

/-- The codes the group stores. -/
theorem pay8_apply (k : Fin 112) :
    k0_pay8 (F := Ideal) (k0_pay7 v37 v38 v45 v49 v53) (ix2 k l) = (row v0 v2 v5 v38 v45 v49 v53 l).codeNew k := by
  pointwise [k0_pay8, k0_pay7]
  rw [pay4_apply h, pay5_apply h, pay6_apply h]
  rfl

end Chain

/-! ## The other three groups compute the first group's values -/

variable {F : FTy → Type} [FloatOps F] (w0 w2 : Vec F S1x112x128 .bf16) (w5 : Vec F S1x128x128 .i32)
  (w38 : Vec F S128x32 .i32) (w45 w49 w53 : Vec F S1x128 .f32)

/-- The second group's momentum. -/
theorem second_mom : k0_pay15 (k0_pay1 w0 w2) (k0_pay10 w5) (k0_pay11 w5) (k0_pay12 w5) (k0_pay13) w53
    = k0_pay3 (k0_pay2 w0 w2 w5) w53 := rfl

/-- The second group's bias. -/
theorem second_lo : k0_pay17 (k0_pay1 w0 w2) (k0_pay10 w5) (k0_pay11 w5) (k0_pay12 w5) (k0_pay13) w38 w45 w49 w53
    = k0_pay5 (k0_pay2 w0 w2 w5) w38 w45 w49 w53 := rfl

/-- The second group's scale. -/
theorem second_step : k0_pay19
      (k0_pay17 (k0_pay1 w0 w2) (k0_pay10 w5) (k0_pay11 w5) (k0_pay12 w5) (k0_pay13) w38 w45 w49 w53)
      (k0_pay18 (k0_pay1 w0 w2) (k0_pay10 w5) (k0_pay11 w5) (k0_pay12 w5) (k0_pay13) w38 w45 w49 w53)
    = k0_pay6 (k0_pay2 w0 w2 w5) w38 w45 w49 w53 := rfl

/-- The second group's codes. -/
theorem second_code : k0_pay20
      (k0_pay16 (k0_pay1 w0 w2) (k0_pay10 w5) (k0_pay11 w5) (k0_pay12 w5) (k0_pay13) w38 w45 w49 w53)
      (k0_pay17 (k0_pay1 w0 w2) (k0_pay10 w5) (k0_pay11 w5) (k0_pay12 w5) (k0_pay13) w38 w45 w49 w53)
      (k0_pay18 (k0_pay1 w0 w2) (k0_pay10 w5) (k0_pay11 w5) (k0_pay12 w5) (k0_pay13) w38 w45 w49 w53)
    = k0_pay8 (k0_pay7 (k0_pay2 w0 w2 w5) w38 w45 w49 w53) := rfl

/-- The third group's momentum. -/
theorem third_mom : k0_pay25 (k0_pay1 w0 w2) (k0_pay21 w5) (k0_pay22 w5) w53 = k0_pay3 (k0_pay2 w0 w2 w5) w53 := rfl

/-- The third group's bias. -/
theorem third_lo : k0_pay28 (k0_pay23 (k0_pay1 w0 w2) (k0_pay21 w5) (k0_pay22 w5)) (k0_pay24 w38 w45 w49)
      (k0_pay25 (k0_pay1 w0 w2) (k0_pay21 w5) (k0_pay22 w5) w53) (k0_pay26)
    = k0_pay5 (k0_pay2 w0 w2 w5) w38 w45 w49 w53 := rfl

/-- The third group's scale. -/
theorem third_step : k0_pay29 (k0_pay23 (k0_pay1 w0 w2) (k0_pay21 w5) (k0_pay22 w5)) (k0_pay24 w38 w45 w49)
      (k0_pay25 (k0_pay1 w0 w2) (k0_pay21 w5) (k0_pay22 w5) w53) (k0_pay26)
    = k0_pay6 (k0_pay2 w0 w2 w5) w38 w45 w49 w53 := rfl

/-- The third group's codes. -/
theorem third_code : k0_pay30 (k0_pay23 (k0_pay1 w0 w2) (k0_pay21 w5) (k0_pay22 w5)) (k0_pay24 w38 w45 w49)
      (k0_pay25 (k0_pay1 w0 w2) (k0_pay21 w5) (k0_pay22 w5) w53) (k0_pay26)
    = k0_pay8 (k0_pay7 (k0_pay2 w0 w2 w5) w38 w45 w49 w53) := rfl

/-- The fourth group's momentum. -/
theorem fourth_mom : k0_pay35 (k0_pay33 (k0_pay1 w0 w2) (k0_pay31 w5) (k0_pay32 w5) 255#32) w53
    = k0_pay3 (k0_pay2 w0 w2 w5) w53 := rfl

/-- The fourth group's bias. -/
theorem fourth_lo : k0_pay37 (k0_pay33 (k0_pay1 w0 w2) (k0_pay31 w5) (k0_pay32 w5) 255#32) (k0_pay34 w38 w45 w49) w53
    = k0_pay5 (k0_pay2 w0 w2 w5) w38 w45 w49 w53 := rfl

/-- The fourth group's scale. -/
theorem fourth_step : k0_pay38 (k0_pay33 (k0_pay1 w0 w2) (k0_pay31 w5) (k0_pay32 w5) 255#32) (k0_pay34 w38 w45 w49) w53
    = k0_pay6 (k0_pay2 w0 w2 w5) w38 w45 w49 w53 := rfl

/-- The fourth group's codes. -/
theorem fourth_code : k0_pay39 (k0_pay33 (k0_pay1 w0 w2) (k0_pay31 w5) (k0_pay32 w5) 255#32) (k0_pay34 w38 w45 w49) w53
    = k0_pay8 (k0_pay7 (k0_pay2 w0 w2 w5) w38 w45 w49 w53) := rfl

end Cert.KernelIdeal.Group

end
-- ==== Proof.Block.lean ====
/-
  What the kernel leaves in its four output blocks at a grid point: lane `l` holds the row update (Proof/Spec.lean) of the
  row in lane `l` of the input blocks, the four groups of 128 lanes being Proof/Group.lean at the four lane offsets.
-/
module

public import proofs.«01_k».proof.Proof.Group
public import proofs.«01_k».proof.Proof.Gen.KernelIdeal.Frame

@[expose] public section

noncomputable section

namespace Cert.KernelIdeal.Block

open Idealize.ShloMosaic Cert.KernelIdeal Cert.KernelIdeal.Gen Cert.RowUpdate

variable (x0 : Vec Ideal S2x112x128 .bf16) (x1 : Vec Ideal S4x128x128 .i32) (x2 : Vec Ideal S512x32 .i32)
  (x3 x4 x5 : Vec Ideal S1x512 .f32)

/-- The row in lane `l` of the input blocks. -/
def blockRow (l : Fin 512) : Row where
  samples b k := x0 (ix3 ⟨b.val / 128, by omega⟩ k ⟨b.val % 128, by omega⟩)
  counts b := x1 (ix3 ⟨l.val / 128, by omega⟩ b ⟨l.val % 128, by omega⟩)
  words q := x2 (ix2 l q)
  scale := x3 (ix2 0 l)
  bias := x4 (ix2 0 l)
  mom := x5 (ix2 0 l)

section Piece

variable (g : Nat)
  (hc : ∀ a, (![g, 0, 0] : Fin 3 → Nat) a + S1x128x128.size a ≤ S4x128x128.size a)
  (hw : ∀ a, (![128 * g, 0] : Fin 2 → Nat) a + S128x32.size a ≤ S512x32.size a)
  (hl : ∀ a, (![0, 128 * g] : Fin 2 → Nat) a + S1x128.size a ≤ S1x512.size a)
  (hk : ∀ a, (![0, 128 * g] : Fin 2 → Nat) a + S112x128.size a ≤ S112x512.size a)

/-- What group `g` loads of the six blocks. -/
abbrev cnt : IVec S1x128x128 32 := View.ld x1 (Rect.unit (s := S4x128x128) ![g, 0, 0] S1x128x128.size hc)
abbrev wrd : IVec S128x32 32 := View.ld x2 (Rect.unit (s := S512x32) ![128 * g, 0] S128x32.size hw)
abbrev lane (x : Vec Ideal S1x512 .f32) : FVec Ideal S1x128 .f32 :=
  View.ld x (Rect.unit (s := S1x512) ![0, 128 * g] S1x128.size hl)

/-- The row in lane `l` of group `g` is the row in lane `128 g + l` of the block. -/
theorem row_ld (l : Fin 128) (n : Fin 512) (hn : n.val = 128 * g + l.val) :
    Group.row (View.ld x0 r0_0) (View.ld x0 r0_1) (cnt x1 g hc) (wrd x2 g hw) (lane g hl x3) (lane g hl x4) (lane g hl x5) l
      = blockRow x0 x1 x2 x3 x4 x5 n := by
  have hlane : ∀ x : Vec Ideal S1x512 .f32, lane g hl x (ix2 0 l) = x (ix2 0 n) := by
    intro x
    refine congrArg x ?_
    funext a
    match a with
    | ⟨0, _⟩ => rfl
    | ⟨1, _⟩ => exact Fin.ext (show 128 * g + 1 * l.val = n.val by omega)
  unfold Group.row blockRow
  congr 1
  · funext b k
    have hb := b.isLt
    split
    · refine congrArg x0 ?_
      funext a
      match a with
      | ⟨0, _⟩ => exact Fin.ext (show 0 + 1 * 0 = b.val / 128 by omega)
      | ⟨1, _⟩ => exact Fin.ext (show 0 + 1 * k.val = k.val by omega)
      | ⟨2, _⟩ => exact Fin.ext (show 0 + 1 * (b.val % 128) = b.val % 128 by omega)
    · refine congrArg x0 ?_
      funext a
      match a with
      | ⟨0, _⟩ => exact Fin.ext (show 1 + 1 * 0 = b.val / 128 by omega)
      | ⟨1, _⟩ => exact Fin.ext (show 0 + 1 * k.val = k.val by omega)
      | ⟨2, _⟩ => exact Fin.ext (show 0 + 1 * (b.val % 128) = b.val % 128 by omega)
  · funext b
    refine congrArg x1 ?_
    funext a
    match a with
    | ⟨0, _⟩ => exact Fin.ext (show g + 1 * 0 = n.val / 128 by omega)
    | ⟨1, _⟩ => exact Fin.ext (show 0 + 1 * b.val = b.val by omega)
    | ⟨2, _⟩ => exact Fin.ext (show 0 + 1 * l.val = n.val % 128 by omega)
  · funext q
    refine congrArg x2 ?_
    funext a
    match a with
    | ⟨0, _⟩ => exact Fin.ext (show 128 * g + 1 * l.val = n.val by omega)
    | ⟨1, _⟩ => exact Fin.ext (show 0 + 1 * q.val = q.val by omega)
  · exact hlane x3
  · exact hlane x4
  · exact hlane x5

/-- The gradient group `g` computes. -/
abbrev grd : FVec Ideal S112x128 .f32 := k0_pay2 (View.ld x0 r0_0) (View.ld x0 r0_1) (cnt x1 g hc)

/-- The codes group `g` stores, at an index of its rectangle of the block. -/
theorem code_piece (x : (Rect.unit (s := S112x512) ![0, 128 * g] S112x128.size hk).shape.Idx) :
    k0_pay8 (F := Ideal) (k0_pay7 (grd x0 x1 g hc) (wrd x2 g hw) (lane g hl x3) (lane g hl x4) (lane g hl x5)) x
      = (fun y : S112x512.Idx => (blockRow x0 x1 x2 x3 x4 x5 (y 1)).codeNew (y 0))
          ((Rect.unit (s := S112x512) ![0, 128 * g] S112x128.size hk).emb x) := by
  obtain ⟨k, l, rfl⟩ : ∃ (k : Fin 112) (l : Fin 128), x = ix2 k l := ⟨x 0, x 1, by
    funext a
    match a with
    | ⟨0, _⟩ => rfl
    | ⟨1, _⟩ => rfl⟩
  refine (Group.pay8_apply (fun k => Group.pay2_apply _ _ _ _ _ _ _ k l) k).trans ?_
  rw [row_ld x0 x1 x2 x3 x4 x5 g hc hw hl l
    ((Rect.unit (s := S112x512) ![0, 128 * g] S112x128.size hk).emb (ix2 k l) 1) (show 128 * g + 1 * l.val = _ by omega)]
  exact congrArg _ (Fin.ext (show k.val = 0 + 1 * k.val by omega))

/-- A value of the row that group `g` stores in a one-row block, at an index of its rectangle. -/
theorem lane_piece (f : Row → EReal) (p : FVec Ideal S1x128 .f32)
    (hp : ∀ l : Fin 128, p (ix2 0 l) = f (Group.row (View.ld x0 r0_0) (View.ld x0 r0_1) (cnt x1 g hc) (wrd x2 g hw)
      (lane g hl x3) (lane g hl x4) (lane g hl x5) l))
    (x : (Rect.unit (s := S1x512) ![0, 128 * g] S1x128.size hl).shape.Idx) :
    p x = (fun y : S1x512.Idx => f (blockRow x0 x1 x2 x3 x4 x5 (y 1)))
      ((Rect.unit (s := S1x512) ![0, 128 * g] S1x128.size hl).emb x) := by
  obtain ⟨l, rfl⟩ : ∃ l : Fin 128, x = ix2 0 l := ⟨x 1, by
    funext a
    match a with
    | ⟨0, _⟩ => exact Fin.ext (show (x 0).val = 0 from Nat.lt_one_iff.mp (x 0).isLt)
    | ⟨1, _⟩ => rfl⟩
  refine (hp l).trans ?_
  rw [row_ld x0 x1 x2 x3 x4 x5 g hc hw hl l
    ((Rect.unit (s := S1x512) ![0, 128 * g] S1x128.size hl).emb (ix2 0 l) 1) (show 128 * g + 1 * l.val = _ by omega)]

end Piece

/-- The codes block. -/
theorem codes (y : S112x512.Idx) :
    out0_6 x0 x1 x2 x3 x4 x5 y = (blockRow x0 x1 x2 x3 x4 x5 (y 1)).codeNew (y 0) := by
  unfold_out out0_6
  rw [Group.fourth_code, Group.third_code, Group.second_code]
  refine View.canon_apply_of_pieces (Val := Elt Ideal) (fun y : S112x512.Idx => (blockRow x0 x1 x2 x3 x4 x5 (y 1)).codeNew (y 0)) _
    (List.forall_mem_cons.mpr ⟨fun x => ?_, List.forall_mem_cons.mpr ⟨fun x => ?_, List.forall_mem_cons.mpr ⟨fun x => ?_,
      List.forall_mem_cons.mpr ⟨fun x => ?_, List.forall_mem_nil _⟩⟩⟩⟩) y (cover0_6 _ _ _ _ y)
  · exact code_piece x0 x1 x2 x3 x4 x5 3 inb_S4x128x128_S1x128x128_3_0_0 inb_S512x32_S128x32_384_0
      inb_S1x512_S1x128_0_384 inb_S112x512_S112x128_0_384 x
  · exact code_piece x0 x1 x2 x3 x4 x5 2 inb_S4x128x128_S1x128x128_2_0_0 inb_S512x32_S128x32_256_0
      inb_S1x512_S1x128_0_256 inb_S112x512_S112x128_0_256 x
  · exact code_piece x0 x1 x2 x3 x4 x5 1 inb_S4x128x128_S1x128x128_1_0_0 inb_S512x32_S128x32_128_0
      inb_S1x512_S1x128_0_128 inb_S112x512_S112x128_0_128 x
  · exact code_piece x0 x1 x2 x3 x4 x5 0 inb_S4x128x128_S1x128x128_0_0_0 inb_S512x32_S128x32_0_0
      inb_S1x512_S1x128_0_0 inb_S112x512_S112x128_0_0 x

/-- A one-row block whose four groups hold a value `f` of their rows holds `f` of the block's rows. -/
theorem canon_lanes (f : Row → EReal) (p3 p2 p1 p0 : FVec Ideal S1x128 .f32)
    (h3 : ∀ l : Fin 128, p3 (ix2 0 l) = f (Group.row (View.ld x0 r0_0) (View.ld x0 r0_1) (View.ld x1 r0_14) (View.ld x2 r0_15)
      (View.ld x3 r0_16) (View.ld x4 r0_16) (View.ld x5 r0_16) l))
    (h2 : ∀ l : Fin 128, p2 (ix2 0 l) = f (Group.row (View.ld x0 r0_0) (View.ld x0 r0_1) (View.ld x1 r0_10) (View.ld x2 r0_11)
      (View.ld x3 r0_12) (View.ld x4 r0_12) (View.ld x5 r0_12) l))
    (h1 : ∀ l : Fin 128, p1 (ix2 0 l) = f (Group.row (View.ld x0 r0_0) (View.ld x0 r0_1) (View.ld x1 r0_6) (View.ld x2 r0_7)
      (View.ld x3 r0_8) (View.ld x4 r0_8) (View.ld x5 r0_8) l))
    (h0 : ∀ l : Fin 128, p0 (ix2 0 l) = f (Group.row (View.ld x0 r0_0) (View.ld x0 r0_1) (View.ld x1 r0_2) (View.ld x2 r0_3)
      (View.ld x3 r0_4) (View.ld x4 r0_4) (View.ld x5 r0_4) l))
    (y : S1x512.Idx) :
    View.canon ([⟨r0_16, p3⟩, ⟨r0_12, p2⟩, ⟨r0_8, p1⟩, ⟨r0_4, p0⟩] : List (View.Piece (Elt Ideal) S1x512 .f32)) y
      = f (blockRow x0 x1 x2 x3 x4 x5 (y 1)) := by
  refine View.canon_apply_of_pieces (Val := Elt Ideal) (fun y : S1x512.Idx => f (blockRow x0 x1 x2 x3 x4 x5 (y 1))) _
    (List.forall_mem_cons.mpr ⟨fun x => ?_, List.forall_mem_cons.mpr ⟨fun x => ?_, List.forall_mem_cons.mpr ⟨fun x => ?_,
      List.forall_mem_cons.mpr ⟨fun x => ?_, List.forall_mem_nil _⟩⟩⟩⟩) y (cover0_7 _ _ _ _ y)
  · exact lane_piece x0 x1 x2 x3 x4 x5 3 inb_S4x128x128_S1x128x128_3_0_0 inb_S512x32_S128x32_384_0
      inb_S1x512_S1x128_0_384 f p3 h3 x
  · exact lane_piece x0 x1 x2 x3 x4 x5 2 inb_S4x128x128_S1x128x128_2_0_0 inb_S512x32_S128x32_256_0
      inb_S1x512_S1x128_0_256 f p2 h2 x
  · exact lane_piece x0 x1 x2 x3 x4 x5 1 inb_S4x128x128_S1x128x128_1_0_0 inb_S512x32_S128x32_128_0
      inb_S1x512_S1x128_0_128 f p1 h1 x
  · exact lane_piece x0 x1 x2 x3 x4 x5 0 inb_S4x128x128_S1x128x128_0_0_0 inb_S512x32_S128x32_0_0
      inb_S1x512_S1x128_0_0 f p0 h0 x

/-- The scales block. -/
theorem scales (y : S1x512.Idx) : out0_7 x0 x1 x2 x3 x4 x5 y = Row.step (blockRow x0 x1 x2 x3 x4 x5 (y 1)) := by
  unfold_out out0_7
  rw [Group.fourth_step, Group.third_step, Group.second_step]
  exact canon_lanes x0 x1 x2 x3 x4 x5 Row.step _ _ _ _ (fun l => Group.pay6_apply fun k => Group.pay2_apply _ _ _ _ _ _ _ k l)
    (fun l => Group.pay6_apply fun k => Group.pay2_apply _ _ _ _ _ _ _ k l)
    (fun l => Group.pay6_apply fun k => Group.pay2_apply _ _ _ _ _ _ _ k l)
    (fun l => Group.pay6_apply fun k => Group.pay2_apply _ _ _ _ _ _ _ k l) y

/-- The biases block. -/
theorem biases (y : S1x512.Idx) : out0_8 x0 x1 x2 x3 x4 x5 y = Row.lo (blockRow x0 x1 x2 x3 x4 x5 (y 1)) := by
  unfold_out out0_8
  rw [Group.fourth_lo, Group.third_lo, Group.second_lo]
  exact canon_lanes x0 x1 x2 x3 x4 x5 Row.lo _ _ _ _ (fun l => Group.pay5_apply fun k => Group.pay2_apply _ _ _ _ _ _ _ k l)
    (fun l => Group.pay5_apply fun k => Group.pay2_apply _ _ _ _ _ _ _ k l)
    (fun l => Group.pay5_apply fun k => Group.pay2_apply _ _ _ _ _ _ _ k l)
    (fun l => Group.pay5_apply fun k => Group.pay2_apply _ _ _ _ _ _ _ k l) y

/-- The momenta block. -/
theorem momenta (y : S1x512.Idx) : out0_9 x0 x1 x2 x3 x4 x5 y = Row.momNew (blockRow x0 x1 x2 x3 x4 x5 (y 1)) := by
  unfold_out out0_9
  rw [Group.fourth_mom, Group.third_mom, Group.second_mom]
  exact canon_lanes x0 x1 x2 x3 x4 x5 Row.momNew _ _ _ _ (fun l => Group.pay3_apply fun k => Group.pay2_apply _ _ _ _ _ _ _ k l)
    (fun l => Group.pay3_apply fun k => Group.pay2_apply _ _ _ _ _ _ _ k l)
    (fun l => Group.pay3_apply fun k => Group.pay2_apply _ _ _ _ _ _ _ k l)
    (fun l => Group.pay3_apply fun k => Group.pay2_apply _ _ _ _ _ _ _ k l) y

end Cert.KernelIdeal.Block

end
-- ==== Proof.Array.lean ====
/-
  The kernel's four result arrays: row `r` of each is the row update (Proof/Spec.lean) of row `r` of the arguments, the
  blocks of the 50 grid points being Proof/Block.lean at rows `512 t` on.
-/
module

public import proofs.«01_k».proof.Proof.Block
public import proofs.«01_k».proof.Proof.Gen.KernelIdeal.Value
public import Idealize.ShloMosaic.Lib.Pipeline.ValueKit.Geometry

@[expose] public section

noncomputable section

namespace Cert.KernelIdeal.Array

open Idealize.ShloMosaic Idealize.ShloMosaic.TcCoe Idealize.SL.Sem Cert.KernelIdeal Cert.KernelIdeal.Gen Cert.RowUpdate

variable (m : (ℓ : Loc nD τ sig) → Buf (Elt Ideal) ℓ) (ρ : Dev nD → PrngReg) (c : Dev nD)

/-! ## The arrays the grid reads, from the arguments -/

/-- The gradient columns: the first argument, its two last axes exchanged. -/
theorem V_v0 (g : Fin 2) (k : Fin 112) (b : Fin 128) : V m c main_v0 (ix3 g k b)
    = m ((c : Thread nD τ).loc main_arg0) (ix3 g b k) := by
  have h : V m c main_v0
      = transpose S2x112x128 [0, 2, 1] (m ((c : Thread nD τ).loc main_arg0)) transposes_S2x128x112_S2x112x128_0_2_1 := by
    show StableHlo.after hostOps0 _ (Proc.devRef .tc main_v0) = _
    after_results
  rw [h]
  pointwise []

/-- The packed words, one row of 32 words per table row. -/
theorem V_v1 (r : Fin 25600) (q : Fin 32) : V m c main_v1 (ix2 r q)
    = m ((c : Thread nD τ).loc main_arg2) (ix1 ⟨r.val * 32 + q.val, by omega⟩) := by
  have h : V m c main_v1
      = shapeCast S25600x32 (m ((c : Thread nD τ).loc main_arg2)) shapeCasts_S819200_S25600x32 := by
    show StableHlo.after hostOps0 _ (Proc.devRef .tc main_v1) = _
    after_results
    rfl
  rw [h]
  pointwise []

/-- A vector cast to one row, read at a lane. -/
theorem shapeCast_row (x : S25600.Idx → EReal) (r : Fin 25600) :
    shapeCast S1x25600 x shapeCasts_S25600_S1x25600 (ix2 0 r) = x (ix1 r) := by
  refine shapeCast_apply x _ _ (ix1 r) ?_
  rw [Shape.rowMajor_val_one, Shape.rowMajor_val_two]
  show r.val = 0 * 25600 + r.val
  omega

/-- The scales as one row. -/
theorem V_v2 (r : Fin 25600) : V m c main_v2 (ix2 0 r) = m ((c : Thread nD τ).loc main_arg3) (ix1 r) := by
  have h : V m c main_v2
      = shapeCast S1x25600 (m ((c : Thread nD τ).loc main_arg3)) shapeCasts_S25600_S1x25600 := by
    show StableHlo.after hostOps0 _ (Proc.devRef .tc main_v2) = _
    after_results
    rfl
  rw [h]
  exact shapeCast_row _ r

/-- The biases as one row. -/
theorem V_v3 (r : Fin 25600) : V m c main_v3 (ix2 0 r) = m ((c : Thread nD τ).loc main_arg4) (ix1 r) := by
  have h : V m c main_v3
      = shapeCast S1x25600 (m ((c : Thread nD τ).loc main_arg4)) shapeCasts_S25600_S1x25600 := by
    show StableHlo.after hostOps0 _ (Proc.devRef .tc main_v3) = _
    after_results
    rfl
  rw [h]
  exact shapeCast_row _ r

/-- The momenta as one row. -/
theorem V_v4 (r : Fin 25600) : V m c main_v4 (ix2 0 r) = m ((c : Thread nD τ).loc main_arg5) (ix1 r) := by
  have h : V m c main_v4
      = shapeCast S1x25600 (m ((c : Thread nD τ).loc main_arg5)) shapeCasts_S25600_S1x25600 := by
    show StableHlo.after hostOps0 _ (Proc.devRef .tc main_v4) = _
    after_results
    rfl
  rw [h]
  exact shapeCast_row _ r

/-! ## The block each window names at a grid point -/

theorem e0 : ∀ t : Fin cfg0.N, win0_0.index t = ![0, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)
theorem e9 : ∀ t : Fin cfg0.N, win0_9.index t = ![0, t.val] := (by decide +kernel : ∀ t : Fin grid0.N, _)

/-- Row `r` of the launched arguments. -/
abbrev argRow (r : Fin 25600) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- Lane `l` of the input blocks at grid point `t` is row `512 t + l` of the arguments. -/
theorem blockRow_eq (t : Fin cfg0.N) (l : Fin 512) (r : Fin 25600) (hr : r.val = 512 * t.val + l.val) :
    Block.blockRow (iblk m c 0 t) (iblk m c 1 t) (iblk m c 2 t) (iblk m c 3 t) (iblk m c 4 t) (iblk m c 5 t) l
      = argRow m c r := by
  unfold Block.blockRow argRow rowOf
  congr 1
  · funext b k
    refine Eq.trans ?_ (V_v0 m c ⟨b.val / 128, by omega⟩ k ⟨b.val % 128, by omega⟩)
    blk_simp [iblk]
    blk_ext [e0]
  · funext b
    blk_simp [iblk]
    rw [V_main_arg1]
    blk_ext [e1]
  · funext q
    refine Eq.trans ?_ (V_v1 m c r q)
    blk_simp [iblk]
    blk_ext [e2]
  · refine Eq.trans ?_ (V_v2 m c r)
    blk_simp [iblk]
    blk_ext [e3]
  · refine Eq.trans ?_ (V_v3 m c r)
    blk_simp [iblk]
    blk_ext [e4]
  · refine Eq.trans ?_ (V_v4 m c r)
    blk_simp [iblk]
    blk_ext [e5]

/-! ## The four result arrays -/

/-- The codes array. -/
theorem codes_eq : (dats m 0 c).arrAt 6 cfg0.N = fun i : S112x25600.Idx => (argRow m c (i 1)).codeNew (i 0) := by
  refine (dats m 0 c).arrAt_eq_of_covers 6 _ (by decide +kernel) fun t hf y => ?_
  blk_simp
  rw [after0_6]
  refine (Block.codes _ _ _ _ _ _ _).trans ?_
  rw [blockRow_eq m c t (y 1) ((win0_6.blk t).view.emb y 1) (by blk_simp [e6]; omega)]
  exact congrArg _ (Fin.ext (by blk_simp [e6]))

/-- The scales array. -/
theorem scales_eq : (dats m 0 c).arrAt 7 cfg0.N = fun i : S1x25600.Idx => (argRow m c (i 1)).step := by
  refine (dats m 0 c).arrAt_eq_of_covers 7 _ (by decide +kernel) fun t hf y => ?_
  blk_simp
  rw [after0_7]
  refine (Block.scales _ _ _ _ _ _ _).trans ?_
  rw [blockRow_eq m c t (y 1) ((win0_7.blk t).view.emb y 1) (by blk_simp [e7]; omega)]

/-- The biases array. -/
theorem biases_eq : (dats m 0 c).arrAt 8 cfg0.N = fun i : S1x25600.Idx => (argRow m c (i 1)).lo := by
  refine (dats m 0 c).arrAt_eq_of_covers 8 _ (by decide +kernel) fun t hf y => ?_
  blk_simp
  rw [after0_8]
  refine (Block.biases _ _ _ _ _ _ _).trans ?_
  rw [blockRow_eq m c t (y 1) ((win0_8.blk t).view.emb y 1) (by blk_simp [e8]; omega)]

/-- The momenta array. -/
theorem momenta_eq : (dats m 0 c).arrAt 9 cfg0.N = fun i : S1x25600.Idx => (argRow m c (i 1)).momNew := by
  refine (dats m 0 c).arrAt_eq_of_covers 9 _ (by decide +kernel) fun t hf y => ?_
  blk_simp
  rw [after0_9]
  refine (Block.momenta _ _ _ _ _ _ _).trans ?_
  rw [blockRow_eq m c t (y 1) ((win0_9.blk t).view.emb y 1) (by blk_simp [e9]; omega)]

end Cert.KernelIdeal.Array

end
-- ==== Proof.Reference.lean ====
/-
  The reference program's stages read at an index: row `r` of each is the row update (Proof/Spec.lean) of row `r` of the
  arguments.
-/
module

public import proofs.«01_k».proof.Proof.Spec
public import proofs.«01_k».proof.Proof.Gen.ReferenceIdeal.Read
public import Idealize.ShloMosaic.Lib.Pointwise

@[expose] public section

noncomputable section

namespace Cert.ReferenceIdeal.Rows

open Idealize.ShloMosaic Cert.ReferenceIdeal Cert.ReferenceIdeal.Gen Cert.ReferenceIdeal.Read Cert.RowUpdate

variable (x0 : (⟨S2x128x112, .bf16⟩ : BufTy).Contents (Elt Ideal)) (x1 : (⟨S200x128x128, .i32⟩ : BufTy).Contents (Elt Ideal))
  (x2 : (⟨S819200, .i32⟩ : BufTy).Contents (Elt Ideal)) (x3 x4 x5 : (⟨S25600, .f32⟩ : BufTy).Contents (Elt Ideal))

/-- The count of sample `b` in row `r`. -/
theorem count_apply (r : Fin 25600) (b : Fin 256) :
    val_main_v12 (F := Ideal) x1 (ix2 r b) = (rowOf x0 x1 x2 x3 x4 x5 r).count b := by
  simp only [val_main_v12_apply, val_main_v11_apply, val_main_v10_apply, val_main_v9_apply, val_main_v8_apply,
    val_main_c_0_apply, val_main_v7_apply, val_main_v6_apply, val_main_v5_apply, val_main_v4_apply, val_main_v3_apply,
    val_main_v2_apply, val_main_v1_apply, val_main_v0_apply, val_main_c_apply]
  have hs : IntOp.muli (16#32) (BitVec.ofNat 32 ((r.val * 256 + b.val) / 128 % 2)) = BitVec.ofNat 32 (16 * (b.val / 128)) := by
    have : (r.val * 256 + b.val) / 128 % 2 = b.val / 128 := by omega
    rw [this]
    have h2 : b.val / 128 < 2 := by omega
    interval_cases b.val / 128 <;> decide
  refine Eq.trans (congrArg (fun s => FloatOps.sitofp (F := Ideal) .f32 (IntOp.andi (IntOp.shrsi .host (x1 _) s) 65535#32)) hs) ?_
  rw [sitofp_half _ _ _ (by omega)]
  refine congrArg (digit _ _) (congrArg x1 ?_)
  funext a
  match a with
  | ⟨0, _⟩ => exact Fin.ext (show (r.val * 256 + b.val) / 32768 = r.val / 128 by omega)
  | ⟨1, _⟩ => exact Fin.ext (show (r.val * 256 + b.val) % 128 = b.val % 128 by omega)
  | ⟨2, _⟩ => exact Fin.ext (show (r.val * 256 + b.val) / 256 % 128 = r.val % 128 by omega)

/-- The gradient of row `r`. -/
theorem grad_apply (r : Fin 25600) (k : Fin 112) :
    val_main_v15 (F := Ideal) x0 x1 (ix2 r k) = (rowOf x0 x1 x2 x3 x4 x5 r).grad k := by
  rw [val_main_v15_apply]
  refine Finset.sum_congr rfl fun b _ => ?_
  have hl : lidx_main_v15 (ix2 r k) b = ix2 r b := by
    funext a
    match a with
    | ⟨0, _⟩ => rfl
    | ⟨1, _⟩ => rfl
  rw [hl, count_apply x0 x1 x2 x3 x4 x5, val_main_v14_apply, val_main_v13_apply]
  refine congrArg (_ * ·) (congrArg x0 ?_)
  funext a
  match a with
  | ⟨0, _⟩ => exact Fin.ext (show (b.val * 112 + k.val) / 14336 = b.val / 128 by omega)
  | ⟨1, _⟩ => exact Fin.ext (show (b.val * 112 + k.val) / 112 % 128 = b.val % 128 by omega)
  | ⟨2, _⟩ => exact Fin.ext (show (b.val * 112 + k.val) % 112 = k.val by omega)

/-- The byte code of row `r` at column `k`. -/
theorem code_apply (r : Fin 25600) (k : Fin 112) :
    val_main_v29 (F := Ideal) x2 (ix2 r k) = (rowOf x0 x1 x2 x3 x4 x5 r).code k := by
  simp only [val_main_v29_apply, val_main_v28_apply, val_main_v27_apply, val_main_v26_apply, val_main_v25_apply,
    val_main_c_2_apply, val_main_v24_apply, val_main_v23_apply, val_main_v22_apply, val_main_v21_apply, val_main_v20_apply,
    val_main_v19_apply, val_main_v18_apply, val_main_v17_apply, val_main_v16_apply, val_main_c_1_apply]
  have hs : IntOp.muli (8#32) (BitVec.ofNat 32 ((r.val * 128 + k.val) % 4)) = BitVec.ofNat 32 (8 * (k.val % 4)) := by
    have : (r.val * 128 + k.val) % 4 = k.val % 4 := by omega
    rw [this]
    have h2 : k.val % 4 < 4 := by omega
    interval_cases k.val % 4 <;> decide
  refine Eq.trans (congrArg (fun s => FloatOps.sitofp (F := Ideal) .f32 (IntOp.andi (IntOp.shrsi .host (x2 _) s) 255#32)) hs) ?_
  rw [sitofp_byte _ _ _ (by omega)]
  refine congrArg (digit _ _) (congrArg x2 ?_)
  funext a
  match a with
  | ⟨0, _⟩ => exact Fin.ext (show (r.val * 128 + k.val) / 128 * 32 + (r.val * 128 + k.val) / 4 % 32 = r.val * 32 + k.val / 4 by omega)

/-- The momentum of row `r` after the step. -/
theorem mom_apply (r : Fin 25600) : val_main_v40 (F := Ideal) x0 x1 x5 (ix1 r) = (rowOf x0 x1 x2 x3 x4 x5 r).momNew := by
  rw [val_main_v40_apply, val_main_v39_apply, val_main_v38_apply, val_main_v37_apply, val_main_cst_apply]
  have hsum : ∀ k : Fin 112, val_main_v36 (F := Ideal) x0 x1 (idx_main_v37 (ix1 r) k)
      = (rowOf x0 x1 x2 x3 x4 x5 r).grad k * (rowOf x0 x1 x2 x3 x4 x5 r).grad k := by
    intro k
    have hi : idx_main_v37 (ix1 r) k = ix2 r k := by
      funext a
      match a with
      | ⟨0, _⟩ => rfl
      | ⟨1, _⟩ => rfl
    rw [hi, val_main_v36_apply, grad_apply x0 x1 x2 x3 x4 x5]
    rfl
  rw [Finset.sum_congr rfl fun k _ => hsum k]
  show _ + Ideal.div (Ideal.ofBits .f32 0x00000000#32 + _) _ = _
  rw [Ideal.ofBits_zero_f32, zero_add]
  rfl

/-- The weight of row `r` at column `k` after the step. -/
theorem new_apply (r : Fin 25600) (k : Fin 112) :
    val_main_v49 (F := Ideal) x0 x1 x2 x3 x4 x5 (ix2 r k) = (rowOf x0 x1 x2 x3 x4 x5 r).new k := by
  have h1 : idx_main_v46 (idx_main_v47 (ix2 r k)) = ix1 r := by
    funext a
    match a with
    | ⟨0, _⟩ => rfl
  have h3 : idx_main_v30 (idx_main_v31 (ix2 r k)) = ix1 r := h1
  have h4 : idx_main_v33 (idx_main_v34 (ix2 r k)) = ix1 r := h1
  rw [val_main_v49_apply, val_main_v48_apply, val_main_v42_apply, val_main_v41_apply, val_main_v47_apply,
    val_main_v46_apply, h1, val_main_v45_apply, val_main_v44_apply, val_main_v43_apply, mom_apply x0 x1 x2 x3 x4 x5,
    grad_apply x0 x1 x2 x3 x4 x5, val_main_v35_apply, val_main_v34_apply, val_main_v33_apply, h4, val_main_v32_apply,
    val_main_v31_apply, val_main_v30_apply, h3, code_apply x0 x1 x2 x3 x4 x5]
  rfl

/-- The smallest new weight of row `r`. -/
theorem lo_apply (r : Fin 25600) :
    val_main_v50 (F := Ideal) x0 x1 x2 x3 x4 x5 (ix1 r) = (rowOf x0 x1 x2 x3 x4 x5 r).lo := by
  unfold val_main_v50
  pointwise [new_apply]
  rfl

/-- The largest new weight of row `r`. -/
theorem hi_apply (r : Fin 25600) :
    val_main_v51 (F := Ideal) x0 x1 x2 x3 x4 x5 (ix1 r) = (rowOf x0 x1 x2 x3 x4 x5 r).hi := by
  unfold val_main_v51
  pointwise [new_apply]
  rfl

/-- The quantiser's step of row `r`. -/
theorem step_apply (r : Fin 25600) :
    val_main_v56 (F := Ideal) x0 x1 x2 x3 x4 x5 (ix1 r) = (rowOf x0 x1 x2 x3 x4 x5 r).step := by
  rw [val_main_v56_apply, val_main_v55_apply, val_main_v53_apply, val_main_v52_apply, val_main_v54_apply,
    val_main_call0_v0_apply, val_main_cst_8_apply, val_main_cst_9_apply, lo_apply, hi_apply]
  pointwise []
  rfl

/-- The new byte code of row `r` at column `k`. -/
theorem codeNew_apply (r : Fin 25600) (k : Fin 112) :
    val_main_v66 (F := Ideal) x0 x1 x2 x3 x4 x5 (ix2 r k) = (rowOf x0 x1 x2 x3 x4 x5 r).codeNew k := by
  have h1 : idx_main_v57 (idx_main_v58 (ix2 r k)) = ix1 r := by
    funext a
    match a with
    | ⟨0, _⟩ => rfl
  have h2 : idx_main_v60 (idx_main_v61 (ix2 r k)) = ix1 r := h1
  rw [val_main_v66_apply, val_main_v65_apply, val_main_v64_apply, val_main_call2_v4_apply, val_main_call2_v3_apply,
    val_main_call2_v2_apply, val_main_call2_v1_apply, val_main_call2_v0_apply, val_main_v63_apply, val_main_v62_apply,
    val_main_v61_apply, val_main_v60_apply, h2, val_main_v59_apply, val_main_v58_apply, val_main_v57_apply, h1,
    step_apply, lo_apply, new_apply, val_main_c_10_apply, val_main_c_11_apply]
  unfold Row.codeNew
  rw [ofBits_255]
  have h0 : FloatOps.sitofp (F := Ideal) .f32 (0#32) = (0 : EReal) := by
    show ((((0#32 : BitVec 32).toInt : ℝ)) : EReal) = 0
    simp
  rw [h0]
  rfl

/-! ## The four results -/

/-- The codes result. -/
theorem codes_apply (k : Fin 112) (r : Fin 25600) :
    val_main_v67 (F := Ideal) x0 x1 x2 x3 x4 x5 (ix2 k r) = (rowOf x0 x1 x2 x3 x4 x5 r).codeNew k := by
  rw [val_main_v67_apply, ← codeNew_apply]
  congr 1
  funext a
  match a with
  | ⟨0, _⟩ => rfl
  | ⟨1, _⟩ => rfl

/-- The scales result. -/
theorem scales_apply (r : Fin 25600) :
    val_main_v68 (F := Ideal) x0 x1 x2 x3 x4 x5 (ix2 0 r) = (rowOf x0 x1 x2 x3 x4 x5 r).step := by
  rw [val_main_v68_apply, ← step_apply]
  congr 1
  funext a
  match a with
  | ⟨0, _⟩ => rfl

/-- The biases result. -/
theorem biases_apply (r : Fin 25600) :
    val_main_v69 (F := Ideal) x0 x1 x2 x3 x4 x5 (ix2 0 r) = (rowOf x0 x1 x2 x3 x4 x5 r).lo := by
  rw [val_main_v69_apply, ← lo_apply]
  congr 1
  funext a
  match a with
  | ⟨0, _⟩ => rfl

/-- The momenta result. -/
theorem momenta_apply (r : Fin 25600) :
    val_main_v70 (F := Ideal) x0 x1 x5 (ix2 0 r) = (rowOf x0 x1 x2 x3 x4 x5 r).momNew := by
  rw [val_main_v70_apply, ← mom_apply]
  congr 1
  funext a
  match a with
  | ⟨0, _⟩ => rfl

end Cert.ReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.RowUpdate

/-- The reference runs, keeps its arguments and leaves every counter at zero (it declares no semaphore). -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

section Reference

open Cert.ReferenceIdeal Cert.ReferenceIdeal.Read Cert.ReferenceIdeal.Rows

variable (x0 : (⟨S2x128x112, .bf16⟩ : BufTy).Contents (Elt Ideal)) (x1 : (⟨S200x128x128, .i32⟩ : BufTy).Contents (Elt Ideal))
  (x2 : (⟨S819200, .i32⟩ : BufTy).Contents (Elt Ideal)) (x3 x4 x5 : (⟨S25600, .f32⟩ : BufTy).Contents (Elt Ideal))

/-- A one-row result of the reference is the function of rows that it is at every lane. -/
theorem lanes_eq (f : Row → EReal) (v : S1x25600.Idx → EReal)
    (h : ∀ r : Fin 25600, v (ix2 0 r) = f (rowOf x0 x1 x2 x3 x4 x5 r)) :
    v = fun i => f (rowOf x0 x1 x2 x3 x4 x5 (i 1)) := by
  funext i
  have hi : i = ix2 0 (i 1) := by
    funext a
    match a with
    | ⟨0, _⟩ => exact Fin.ext (Nat.lt_one_iff.mp (i 0).isLt)
    | ⟨1, _⟩ => rfl
  rw [hi]
  exact h (i 1)

/-- The reference's codes are the row updates' codes. -/
theorem codes_eq : val_main_v67 (F := Ideal) x0 x1 x2 x3 x4 x5
    = fun i : S112x25600.Idx => (rowOf x0 x1 x2 x3 x4 x5 (i 1)).codeNew (i 0) := by
  funext i
  have hi : i = ix2 (i 0) (i 1) := by
    funext a
    match a with
    | ⟨0, _⟩ => rfl
    | ⟨1, _⟩ => rfl
  rw [hi]
  exact codes_apply x0 x1 x2 x3 x4 x5 (i 0) (i 1)

end Reference

/-- From memories that agree on the arguments, the kernel's four result arrays and the reference's are equal. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c i => (Cert.KernelIdeal.Array.argRow m c (i 1)).codeNew (i 0),
    fun c i => Row.step (Cert.KernelIdeal.Array.argRow m c (i 1)),
    fun c i => Row.lo (Cert.KernelIdeal.Array.argRow m c (i 1)),
    fun c i => Row.momNew (Cert.KernelIdeal.Array.argRow m c (i 1)), ?_, ?_⟩
  · exact (θ_run Cert.KernelIdeal.defs _ _).mono (fun r h c =>
      ⟨(h c).1.trans (Cert.KernelIdeal.Array.codes_eq m c), (h c).2.1.trans (Cert.KernelIdeal.Array.scales_eq m c),
        (h c).2.2.1.trans (Cert.KernelIdeal.Array.biases_eq m c),
        (h c).2.2.2.1.trans (Cert.KernelIdeal.Array.momenta_eq m c), (h c).2.2.2.2⟩)
      (Cert.KernelIdeal.Value.run_blocks (F := Ideal) m g)
  · refine (θ_run Cert.ReferenceIdeal.defs _ _).mono (fun r h c => ?_) (Cert.ReferenceIdeal.Value.run (F := Ideal) m' g')
    obtain ⟨a0, a1, a2, a3, a4, a5⟩ := hagree c
    have hrow : ∀ r, Cert.KernelIdeal.Array.argRow m c r
        = rowOf (m' ((c : Thread Cert.ReferenceIdeal.nD Cert.ReferenceIdeal.τ).loc Cert.ReferenceIdeal.main_arg0))
            (m' ((c : Thread Cert.ReferenceIdeal.nD Cert.ReferenceIdeal.τ).loc Cert.ReferenceIdeal.main_arg1))
            (m' ((c : Thread Cert.ReferenceIdeal.nD Cert.ReferenceIdeal.τ).loc Cert.ReferenceIdeal.main_arg2))
            (m' ((c : Thread Cert.ReferenceIdeal.nD Cert.ReferenceIdeal.τ).loc Cert.ReferenceIdeal.main_arg3))
            (m' ((c : Thread Cert.ReferenceIdeal.nD Cert.ReferenceIdeal.τ).loc Cert.ReferenceIdeal.main_arg4))
            (m' ((c : Thread Cert.ReferenceIdeal.nD Cert.ReferenceIdeal.τ).loc Cert.ReferenceIdeal.main_arg5)) r := by
      intro r
      rw [a0, a1, a2, a3, a4, a5]
    refine ⟨?_, ?_, ?_, ?_, (h c).2.2.2.2⟩
    · refine ((h c).1.trans (Cert.ReferenceIdeal.Read.val_main_v67_eq m' c)).trans ((codes_eq _ _ _ _ _ _).trans ?_)
      exact funext fun i => congrArg (fun R => Row.codeNew R (i 0)) (hrow (i 1)).symm
    · refine ((h c).2.1.trans (Cert.ReferenceIdeal.Read.val_main_v68_eq m' c)).trans
        ((lanes_eq _ _ _ _ _ _ Row.step _ (Cert.ReferenceIdeal.Rows.scales_apply _ _ _ _ _ _)).trans ?_)
      exact funext fun i => congrArg (Row.step) (hrow (i 1)).symm
    · refine ((h c).2.2.1.trans (Cert.ReferenceIdeal.Read.val_main_v69_eq m' c)).trans
        ((lanes_eq _ _ _ _ _ _ Row.lo _ (Cert.ReferenceIdeal.Rows.biases_apply _ _ _ _ _ _)).trans ?_)
      exact funext fun i => congrArg (Row.lo) (hrow (i 1)).symm
    · refine ((h c).2.2.2.1.trans (Cert.ReferenceIdeal.Read.val_main_v70_eq _ _ _)).trans
        ((lanes_eq _ _ (m' ((c : Thread Cert.ReferenceIdeal.nD Cert.ReferenceIdeal.τ).loc Cert.ReferenceIdeal.main_arg2))
          (m' ((c : Thread Cert.ReferenceIdeal.nD Cert.ReferenceIdeal.τ).loc Cert.ReferenceIdeal.main_arg3))
          (m' ((c : Thread Cert.ReferenceIdeal.nD Cert.ReferenceIdeal.τ).loc Cert.ReferenceIdeal.main_arg4)) _ Row.momNew _
          (Cert.ReferenceIdeal.Rows.momenta_apply _ _ _ _ _ _)).trans ?_)
      exact funext fun i => congrArg (Row.momNew) (hrow (i 1)).symm

/-- The certificate's claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
